-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x512x32 : Shape := ⟨4, ![2, 1024, 512, 32]⟩
abbrev S32 : Shape := ⟨1, ![32]⟩
abbrev S32x32 : Shape := ⟨2, ![32, 32]⟩
abbrev S2x1024x32x512 : Shape := ⟨4, ![2, 1024, 32, 512]⟩
abbrev S32x1 : Shape := ⟨2, ![32, 1]⟩
abbrev S_ : Shape := ⟨0, ![]⟩
abbrev S64x32 : Shape := ⟨2, ![64, 32]⟩
abbrev S64x1x1x32 : Shape := ⟨4, ![64, 1, 1, 32]⟩
abbrev S16x16 : Shape := ⟨2, ![16, 16]⟩
abbrev S1x16x16x1 : Shape := ⟨4, ![1, 16, 16, 1]⟩
abbrev S64x16x16x32 : Shape := ⟨4, ![64, 16, 16, 32]⟩
abbrev S1024x512 : Shape := ⟨2, ![1024, 512]⟩
abbrev S64 : Shape := ⟨1, ![64]⟩
abbrev S64x16 : Shape := ⟨2, ![64, 16]⟩
abbrev S1024 : Shape := ⟨1, ![1024]⟩
abbrev S1024x1 : Shape := ⟨2, ![1024, 1]⟩
abbrev S16x1x1x16 : Shape := ⟨4, ![16, 1, 1, 16]⟩
abbrev S1x32x32x1 : Shape := ⟨4, ![1, 32, 32, 1]⟩
abbrev S16x32x32x16 : Shape := ⟨4, ![16, 32, 32, 16]⟩
abbrev S512x512 : Shape := ⟨2, ![512, 512]⟩
abbrev S1x32 : Shape := ⟨2, ![1, 32]⟩
abbrev S16x32 : Shape := ⟨2, ![16, 32]⟩
abbrev S512 : Shape := ⟨1, ![512]⟩
abbrev S512x1 : Shape := ⟨2, ![512, 1]⟩
abbrev S64x2x1024x512 : Shape := ⟨4, ![64, 2, 1024, 512]⟩
abbrev S32x2x512x512 : Shape := ⟨4, ![32, 2, 512, 512]⟩
abbrev S2x512x32x512 : Shape := ⟨4, ![2, 512, 32, 512]⟩
abbrev S2x512x512x32 : Shape := ⟨4, ![2, 512, 512, 32]⟩
abbrev S1x16x32x512 : Shape := ⟨4, ![1, 16, 32, 512]⟩
abbrev S64x1x16x512 : Shape := ⟨4, ![64, 1, 16, 512]⟩
abbrev S16x32x512 : Shape := ⟨3, ![16, 32, 512]⟩
abbrev S16x512 : Shape := ⟨2, ![16, 512]⟩
abbrev S16x1x512 : Shape := ⟨3, ![16, 1, 512]⟩
abbrev S1x32x1 : Shape := ⟨3, ![1, 32, 1]⟩
abbrev S64x16x512 : Shape := ⟨3, ![64, 16, 512]⟩
abbrev S1x1x1024x512 : Shape := ⟨4, ![1, 1, 1024, 512]⟩
abbrev S1x1x1024x256 : Shape := ⟨4, ![1, 1, 1024, 256]⟩
abbrev S1x1x512x256 : Shape := ⟨4, ![1, 1, 512, 256]⟩
abbrev S1024x256 : Shape := ⟨2, ![1024, 256]⟩
abbrev S512x256 : Shape := ⟨2, ![512, 256]⟩
abbrev S32x1x16x512 : Shape := ⟨4, ![32, 1, 16, 512]⟩
abbrev S32x16x512 : Shape := ⟨3, ![32, 16, 512]⟩

abbrev nBuf : Space → Nat
  | .hbm => 57
  | .vmem => 20
  | .smem => 0
  | _ => 0

abbrev bufTy : (tb : Table) → Fin (tcTables nBuf tb) → BufTy
  | .hbm, ⟨0, _⟩ => ⟨S2x1024x512x32, .f32⟩
  | .hbm, ⟨1, _⟩ => ⟨S32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S2x1024x32x512, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x32, .f32⟩
  | .hbm, ⟨14, _⟩ => ⟨S32x32, .f32⟩
  | .hbm, ⟨15, _⟩ => ⟨S64x32, .f32⟩
  | .hbm, ⟨16, _⟩ => ⟨S64x1x1x32, .f32⟩
  | .hbm, ⟨17, _⟩ => ⟨S16x16, .i32⟩
  | .hbm, ⟨18, _⟩ => ⟨S16x16, .i32⟩
  | .hbm, ⟨19, _⟩ => ⟨S_, .i32⟩
  | .hbm, ⟨20, _⟩ => ⟨S16x16, .i32⟩
  | .hbm, ⟨21, _⟩ => ⟨S16x16, .i32⟩
  | .hbm, ⟨22, _⟩ => ⟨S16x16, .i1⟩
  | .hbm, ⟨23, _⟩ => ⟨S16x16, .f32⟩
  | .hbm, ⟨24, _⟩ => ⟨S1x16x16x1, .f32⟩
  | .hbm, ⟨25, _⟩ => ⟨S64x16x16x32, .f32⟩
  | .hbm, ⟨26, _⟩ => ⟨S64x16x16x32, .f32⟩
  | .hbm, ⟨27, _⟩ => ⟨S64x16x16x32, .f32⟩
  | .hbm, ⟨28, _⟩ => ⟨S1024x512, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S64, .f32⟩
  | .hbm, ⟨33, _⟩ => ⟨S64x16, .f32⟩
  | .hbm, ⟨34, _⟩ => ⟨S1024, .f32⟩
  | .hbm, ⟨35, _⟩ => ⟨S1024x1, .f32⟩
  | .hbm, ⟨36, _⟩ => ⟨S16x16, .i32⟩
  | .hbm, ⟨37, _⟩ => ⟨S16x16, .i32⟩
  | .hbm, ⟨38, _⟩ => ⟨S_, .i32⟩
  | .hbm, ⟨39, _⟩ => ⟨S16x16, .i32⟩
  | .hbm, ⟨40, _⟩ => ⟨S16x16, .i32⟩
  | .hbm, ⟨41, _⟩ => ⟨S16x16, .i1⟩
  | .hbm, ⟨42, _⟩ => ⟨S16x16, .f32⟩
  | .hbm, ⟨43, _⟩ => ⟨S16x1x1x16, .f32⟩
  | .hbm, ⟨44, _⟩ => ⟨S1x32x32x1, .f32⟩
  | .hbm, ⟨45, _⟩ => ⟨S16x32x32x16, .f32⟩
  | .hbm, ⟨46, _⟩ => ⟨S16x32x32x16, .f32⟩
  | .hbm, ⟨47, _⟩ => ⟨S16x32x32x16, .f32⟩
  | .hbm, ⟨48, _⟩ => ⟨S512x512, .f32⟩
  | .hbm, ⟨49, _⟩ => ⟨S1x32, .f32⟩
  | .hbm, ⟨50, _⟩ => ⟨S16x32, .f32⟩
  | .hbm, ⟨51, _⟩ => ⟨S512, .f32⟩
  | .hbm, ⟨52, _⟩ => ⟨S512x1, .f32⟩
  | .hbm, ⟨53, _⟩ => ⟨S64x2x1024x512, .bf16⟩
  | .hbm, ⟨54, _⟩ => ⟨S32x2x512x512, .f32⟩
  | .hbm, ⟨55, _⟩ => ⟨S2x512x32x512, .f32⟩
  | .hbm, ⟨56, _⟩ => ⟨S2x512x512x32, .f32⟩
  | .local _ .vmem, ⟨0, _⟩ => ⟨S1x16x32x512, .f32⟩
  | .local _ .vmem, ⟨1, _⟩ => ⟨S1x16x32x512, .f32⟩
  | .local _ .vmem, ⟨2, _⟩ => ⟨S32x1, .f32⟩
  | .local _ .vmem, ⟨3, _⟩ => ⟨S32x1, .f32⟩
  | .local _ .vmem, ⟨4, _⟩ => ⟨S1024x512, .f32⟩
  | .local _ .vmem, ⟨5, _⟩ => ⟨S1024x1, .f32⟩
  | .local _ .vmem, ⟨6, _⟩ => ⟨S64x1x16x512, .bf16⟩
  | .local _ .vmem, ⟨7, _⟩ => ⟨S64x1x16x512, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x1024x256, .bf16⟩
  | .local _ .vmem, ⟨11, _⟩ => ⟨S1x1x1024x256, .bf16⟩
  | .local _ .vmem, ⟨12, _⟩ => ⟨S1x1x512x256, .f32⟩
  | .local _ .vmem, ⟨13, _⟩ => ⟨S1x1x512x256, .f32⟩
  | .local _ .vmem, ⟨14, _⟩ => ⟨S32x1x16x512, .f32⟩
  | .local _ .vmem, ⟨15, _⟩ => ⟨S32x1x16x512, .f32⟩
  | .local _ .vmem, ⟨16, _⟩ => ⟨S512x512, .f32⟩
  | .local _ .vmem, ⟨17, _⟩ => ⟨S512x1, .f32⟩
  | .local _ .vmem, ⟨18, _⟩ => ⟨S1x16x32x512, .f32⟩
  | .local _ .vmem, ⟨19, _⟩ => ⟨S1x16x32x512, .f32⟩
  | _, _ => ⟨S2x1024x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_cst_0 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_c_1 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_v0 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![2, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![32, 2, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let c0_i32_0 : BitVec 32 := 0#32
  ![v0.toNat, arg1.toNat, c0_i32.toNat, arg2.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage1_0 : Fin 2 → Memref sig .tc .vmem S1x1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨2, ![2, 32], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S32x1x16x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S512x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x16x32x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S2x1024x512x32 : Shape := ⟨4, ![2, 1024, 512, 32]⟩
abbrev S32 : Shape := ⟨1, ![32]⟩
abbrev S32x32 : Shape := ⟨2, ![32, 32]⟩
abbrev S_ : Shape := ⟨0, ![]⟩
abbrev S2x1024x512 : Shape := ⟨3, ![2, 1024, 512]⟩
abbrev S2x1024x512x1 : Shape := ⟨4, ![2, 1024, 512, 1]⟩
abbrev S1x1x1x32 : Shape := ⟨4, ![1, 1, 1, 32]⟩
abbrev S2x32x512x512 : Shape := ⟨4, ![2, 32, 512, 512]⟩
abbrev S2x512x512x32 : Shape := ⟨4, ![2, 512, 512, 32]⟩

abbrev nBuf : Space → Nat
  | .hbm => 58
  | .vmem => 0
  | .smem => 0
  | _ => 0

abbrev bufTy : (tb : Table) → Fin (tcTables nBuf tb) → BufTy
  | .hbm, ⟨0, _⟩ => ⟨S2x1024x512x32, .f32⟩
  | .hbm, ⟨1, _⟩ => ⟨S32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S_, .f32⟩
  | .hbm, ⟨10, _⟩ => ⟨S2x1024x512, .f32⟩
  | .hbm, ⟨11, _⟩ => ⟨S2x1024x512x1, .f32⟩
  | .hbm, ⟨12, _⟩ => ⟨S_, .f32⟩
  | .hbm, ⟨13, _⟩ => ⟨S2x1024x512x1, .f32⟩
  | .hbm, ⟨14, _⟩ => ⟨S2x1024x512x1, .f32⟩
  | .hbm, ⟨15, _⟩ => ⟨S2x1024x512x32, .f32⟩
  | .hbm, ⟨16, _⟩ => ⟨S2x1024x512x32, .f32⟩
  | .hbm, ⟨17, _⟩ => ⟨S2x1024x512x32, .f32⟩
  | .hbm, ⟨18, _⟩ => ⟨S_, .f32⟩
  | .hbm, ⟨19, _⟩ => ⟨S2x1024x512, .f32⟩
  | .hbm, ⟨20, _⟩ => ⟨S2x1024x512x1, .f32⟩
  | .hbm, ⟨21, _⟩ => ⟨S_, .f32⟩
  | .hbm, ⟨22, _⟩ => ⟨S2x1024x512x1, .f32⟩
  | .hbm, ⟨23, _⟩ => ⟨S2x1024x512x1, .f32⟩
  | .hbm, ⟨24, _⟩ => ⟨S2x1024x512x32, .f32⟩
  | .hbm, ⟨25, _⟩ => ⟨S2x1024x512x32, .f32⟩
  | .hbm, ⟨26, _⟩ => ⟨S_, .f32⟩
  | .hbm, ⟨27, _⟩ => ⟨S2x1024x512x1, .f32⟩
  | .hbm, ⟨28, _⟩ => ⟨S2x1024x512x1, .f32⟩
  | .hbm, ⟨29, _⟩ => ⟨S2x1024x512x1, .f32⟩
  | .hbm, ⟨30, _⟩ => ⟨S2x1024x512x32, .f32⟩
  | .hbm, ⟨31, _⟩ => ⟨S2x1024x512x32, .f32⟩
  | .hbm, ⟨32, _⟩ => ⟨S1x1x1x32, .f32⟩
  | .hbm, ⟨33, _⟩ => ⟨S2x1024x512x32, .f32⟩
  | .hbm, ⟨34, _⟩ => ⟨S2x1024x512x32, .f32⟩
  | .hbm, ⟨35, _⟩ => ⟨S1x1x1x32, .f32⟩
  | .hbm, ⟨36, _⟩ => ⟨S2x1024x512x32, .f32⟩
  | .hbm, ⟨37, _⟩ => ⟨S2x1024x512x32, .f32⟩
  | .hbm, ⟨38, _⟩ => ⟨S32x32, .f32⟩
  | .hbm, ⟨39, _⟩ => ⟨S2x1024x512x32, .f32⟩
  | .hbm, ⟨40, _⟩ => ⟨S1x1x1x32, .f32⟩
  | .hbm, ⟨41, _⟩ => ⟨S2x1024x512x32, .f32⟩
  | .hbm, ⟨42, _⟩ => ⟨S2x1024x512x32, .f32⟩
  | .hbm, ⟨43, _⟩ => ⟨S32x32, .f32⟩
  | .hbm, ⟨44, _⟩ => ⟨S2x1024x512x32, .f32⟩
  | .hbm, ⟨45, _⟩ => ⟨S1x1x1x32, .f32⟩
  | .hbm, ⟨46, _⟩ => ⟨S2x1024x512x32, .f32⟩
  | .hbm, ⟨47, _⟩ => ⟨S2x1024x512x32, .f32⟩
  | .hbm, ⟨48, _⟩ => ⟨S2x32x512x512, .f32⟩
  | .hbm, ⟨49, _⟩ => ⟨S2x512x512x32, .f32⟩
  | .hbm, ⟨50, _⟩ => ⟨S_, .f32⟩
  | .hbm, ⟨51, _⟩ => ⟨S2x512x512x32, .f32⟩
  | .hbm, ⟨52, _⟩ => ⟨S2x512x512x32, .f32⟩
  | .hbm, ⟨53, _⟩ => ⟨S32x32, .f32⟩
  | .hbm, ⟨54, _⟩ => ⟨S2x512x512x32, .f32⟩
  | .hbm, ⟨55, _⟩ => ⟨S1x1x1x32, .f32⟩
  | .hbm, ⟨56, _⟩ => ⟨S2x512x512x32, .f32⟩
  | .hbm, ⟨57, _⟩ => ⟨S2x512x512x32, .f32⟩
  | _, _ => ⟨S2x1024x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.KernelRun.lean ====
/- The kernel's whole run, with its result: every buffer that the program owns ends with what the
   last step of the generated fold (`Gen.W5`) holds there. -/
module

public import proofs.«01_k».proof.Proof.Gen.KernelIdeal.Frame

@[expose] public section

noncomputable section

namespace Cert.KernelIdeal.Outer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run of the kernel ends with each buffer outside the regions at `W5`, the fold of the host
    operations and the three regions over the launch's memory. -/
theorem run_all : θ_run defs (onTc (τ := τ) (main (F := F))) ⟨m, fun _ => 0, ρ⟩ (fun r =>
      ∀ (c : Dev nD), ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- Every run of the kernel ends with its result at `W5`'s word for it, and its arguments unchanged. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩) (run_all m ρ)

end Cert.KernelIdeal.Outer

end
-- ==== Proof.Spec.lean ====
/- The mathematics of the block, over plain functions: the layer norm of one row of 32 channels and an
   affine form of it. -/
module

public import Idealize.ShloMosaic.PureOps.Ideal

@[expose] public section

noncomputable section

namespace Cert.OuterMath

open Idealize.ShloMosaic

/-- The mean of 32 values: their sum over 32. -/
def mean32 (f : Fin 32 → EReal) : EReal := Ideal.div (∑ k, f k) (Ideal.ofBits .f32 0x42000000#32)

/-- The layer norm of a row `f` at channel `k`, with gain `g` and shift `b`: the row less its mean, times
    the reciprocal root of its variance plus the small constant, times the gain, plus the shift. -/
def layerNorm (f g b : Fin 32 → EReal) (k : Fin 32) : EReal :=
  (f k - mean32 f)
      * Ideal.rsqrt (mean32 (fun x => (f x - mean32 f) * (f x - mean32 f)) + Ideal.ofBits .f32 0x3727C5AC#32)
      * g k + b k

/-- The affine form of a row `f` with weights `w` and offset `β`. -/
def affine (w f : Fin 32 → EReal) (β : EReal) : EReal := (∑ k, f k * w k) + β

/-- A value over the constant 1024, the length of the sequence. -/
def over (x : EReal) : EReal := Ideal.div x (Ideal.ofBits .f32 0x44800000#32)

/-- The outer product mean at batch `n`, rows `i` and `j`, channel `x`: over the sequence, the second
    projection's channel at row `j` times the first projection's at row `i`, summed and taken over 1024. -/
def outerMean (M : Fin 2 → Fin 1024 → Fin 512 → Fin 32 → EReal) (g b : Fin 32 → EReal) (Wa : Fin 32 → Fin 32 → EReal)
    (ba : Fin 32 → EReal) (Wb : Fin 32 → Fin 32 → EReal) (bb : Fin 32 → EReal) (n : Fin 2) (i j : Fin 512) (x : Fin 32) :
    EReal :=
  over (∑ s : Fin 1024, affine (Wb x) (layerNorm (M n s j) g b) (bb x) * affine (Wa x) (layerNorm (M n s i) g b) (ba x))

/-- The whole function: the output projection of the outer product mean. -/
def result (M : Fin 2 → Fin 1024 → Fin 512 → Fin 32 → EReal) (g b : Fin 32 → EReal) (Wa : Fin 32 → Fin 32 → EReal)
    (ba : Fin 32 → EReal) (Wb : Fin 32 → Fin 32 → EReal) (bb : Fin 32 → EReal) (Wo : Fin 32 → Fin 32 → EReal)
    (bo : Fin 32 → EReal) (n : Fin 2) (i j : Fin 512) (o : Fin 32) : EReal :=
  (∑ x : Fin 32, outerMean M g b Wa ba Wb bb n i j x * Wo o x) + bo o

end Cert.OuterMath

end
-- ==== Proof.HostSide.lean ====
/- What the host operations hand to the regions, at an index: the transposed input, the gain and shift as
   columns, the block-diagonal weights and the tiled offsets. -/
module

public import proofs.«01_k».proof.Proof.Gen.KernelIdeal.Frame
public import proofs.«01_k».proof.Proof.Spec
public import Idealize.ShloMosaic.Lib.StableHlo.ReadAt
public import Idealize.ShloMosaic.Lib.Pointwise

@[expose] public section

set_option maxRecDepth 16384

noncomputable section

namespace Cert.KernelIdeal.Outer

open Idealize.ShloMosaic Idealize.ShloMosaic.TcCoe
open Idealize.SL Idealize.SL.Sem
open Cert.KernelIdeal Cert.KernelIdeal.Gen Cert.OuterMath

/-- An entry of the identity matrix as the host computes it: the comparison of a row number with a column
    number, as a float, is 1 on the diagonal and 0 off it. -/
theorem eye_entry (a b : ℕ) (ha : a < 16) (hb : b < 16) :
    (FloatOps.uitofp (F := Ideal) .f32 (IntOp.cmpi .eq (IntOp.addi (BitVec.ofNat 32 a) 0#32) (BitVec.ofNat 32 b)) : EReal)
      = if a = b then 1 else 0 := by
  by_cases h : a = b
  · subst h
    simp [IntOp.cmpi, IntOp.addi, FloatOps.uitofp]
  · have hne : BitVec.ofNat 32 a ≠ BitVec.ofNat 32 b := fun e => h (by
      have := congrArg BitVec.toNat e
      simp only [BitVec.toNat_ofNat] at this
      omega)
    simp [IntOp.cmpi, IntOp.addi, FloatOps.uitofp, h, hne]

variable (m : (ℓ : Loc nD τ sig) → Buf (Elt Ideal) ℓ) (ρ : Dev nD → PrngReg)

/-! ## The arguments as plain functions -/

/-- The input. -/
def aM (c : Dev nD) (n : Fin 2) (s : Fin 1024) (i : Fin 512) (k : Fin 32) : EReal := m ((c.tc : Thread nD τ).loc main_arg0) (ix4 n s i k)
/-- The layer norm's gain. -/
def aG (c : Dev nD) (k : Fin 32) : EReal := m ((c.tc : Thread nD τ).loc main_arg1) (ix1 k)
/-- The layer norm's shift. -/
def aB (c : Dev nD) (k : Fin 32) : EReal := m ((c.tc : Thread nD τ).loc main_arg2) (ix1 k)
/-- The first projection's weights. -/
def aWa (c : Dev nD) (x k : Fin 32) : EReal := m ((c.tc : Thread nD τ).loc main_arg3) (ix2 x k)
/-- The first projection's offset. -/
def aba (c : Dev nD) (k : Fin 32) : EReal := m ((c.tc : Thread nD τ).loc main_arg4) (ix1 k)
/-- The second projection's weights. -/
def aWb (c : Dev nD) (x k : Fin 32) : EReal := m ((c.tc : Thread nD τ).loc main_arg5) (ix2 x k)
/-- The second projection's offset. -/
def abb (c : Dev nD) (k : Fin 32) : EReal := m ((c.tc : Thread nD τ).loc main_arg6) (ix1 k)
/-- The output weights. -/
def aWo (c : Dev nD) (x k : Fin 32) : EReal := m ((c.tc : Thread nD τ).loc main_arg7) (ix2 x k)
/-- The output offset. -/
def abo (c : Dev nD) (k : Fin 32) : EReal := m ((c.tc : Thread nD τ).loc main_arg8) (ix1 k)

/-! ## What the regions are handed -/

/-- The transposed input. -/
theorem host_v0 (c : Dev nD) (b : Fin 2) (s : Fin 1024) (k : Fin 32) (i : Fin 512) :
    W1 m ρ c (Proc.devRef .tc main_call0_v0) (ix4 b s k i) = aM m c b s i k := by
  unfold W1 aM
  after_reads_at

/-- The gain as a column. -/
theorem host_v1 (c : Dev nD) (k : Fin 32) :
    W1 m ρ c (Proc.devRef .tc main_call0_v1) (ix2 k 0) = aG m c k := by
  unfold W1 aG
  after_reads_at

/-- The shift as a column. -/
theorem host_v2 (c : Dev nD) (k : Fin 32) :
    W1 m ρ c (Proc.devRef .tc main_call0_v2) (ix2 k 0) = aB m c k := by
  unfold W1 aB
  after_reads_at

/-- The block-diagonal weights of the first region in their upper half: row `o` holds, in the block of 32
    columns number `o mod 16`, the first projection's row `o / 16` over 1024. -/
theorem host_v17_lo (c : Dev nD) (o : Fin 1024) (h : o.val / 16 < 32) (q : Fin 512) :
    W1 m ρ c (Proc.devRef .tc main_call0_v17) (ix2 o q)
      = over (aWa m c ⟨o.val / 16, h⟩ ⟨q.val % 32, by omega⟩) * (if o.val % 16 = q.val / 32 then 1 else 0) := by
  unfold W1
  after_reads_at
  rw [eye_entry _ _ (by omega) (by omega), dif_pos h]
  after_reads_at
  rfl

/-- The lower half: row `o` holds, in the block of 32 columns number `o mod 16`, the second projection's row
    `o / 16 - 32`. -/
theorem host_v17_hi (c : Dev nD) (o : Fin 1024) (h : ¬ o.val / 16 < 32) (q : Fin 512) :
    W1 m ρ c (Proc.devRef .tc main_call0_v17) (ix2 o q)
      = aWb m c ⟨o.val / 16 - 32, by omega⟩ ⟨q.val % 32, by omega⟩ * (if o.val % 16 = q.val / 32 then 1 else 0) := by
  unfold W1
  after_reads_at
  rw [eye_entry _ _ (by omega) (by omega), dif_neg h]
  after_reads_at
  rfl

/-- The first region's offsets, upper half: row `o` holds the first projection's offset `o / 16` over 1024. -/
theorem host_v23_lo (c : Dev nD) (o : Fin 1024) (h : o.val / 16 < 32) :
    W1 m ρ c (Proc.devRef .tc main_call0_v23) (ix2 o 0) = over (aba m c ⟨o.val / 16, h⟩) := by
  unfold W1
  after_reads_at
  rw [dif_pos h]
  after_reads_at
  rfl

/-- The lower half: row `o` holds the second projection's offset `o / 16 - 32`. -/
theorem host_v23_hi (c : Dev nD) (o : Fin 1024) (h : ¬ o.val / 16 < 32) :
    W1 m ρ c (Proc.devRef .tc main_call0_v23) (ix2 o 0) = abb m c ⟨o.val / 16 - 32, by omega⟩ := by
  unfold W1
  after_reads_at
  rw [dif_neg h]
  after_reads_at
  rfl

/-- The block weights of the third region: row `p` holds the output weights of channel `p mod 32` at the
    columns whose remainder by 16 is `p / 32`. -/
theorem host_v35 (c : Dev nD) (p q : Fin 512) :
    W1 m ρ c (Proc.devRef .tc main_call0_v35) (ix2 p q)
      = (if p.val / 32 = q.val % 16 then 1 else 0) * aWo m c ⟨p.val % 32, by omega⟩ ⟨q.val / 16, by omega⟩ := by
  unfold W1
  after_reads_at
  rw [eye_entry _ _ (by omega) (by omega)]
  rfl

/-- The third region's offsets: row `p` holds the output offset of channel `p mod 32`. -/
theorem host_v39 (c : Dev nD) (p : Fin 512) :
    W1 m ρ c (Proc.devRef .tc main_call0_v39) (ix2 p 0) = abo m c ⟨p.val % 32, by omega⟩ := by
  unfold W1
  after_reads_at
  rfl

end Cert.KernelIdeal.Outer

end
-- ==== Proof.Arith.lean ====
/- Facts about sums of extended reals: a block-diagonal sum keeps one block; dividing by the positive
   constant 1024 commutes with sums and products. -/
module

public import proofs.«01_k».proof.Proof.Spec
public import Idealize.ShloMosaic.Lib.Pipeline.ValueKit
public import Idealize.ShloMosaic.Lib.IdealHost

@[expose] public section

noncomputable section

namespace Cert.OuterMath

open Idealize.ShloMosaic

/-- A sum over 16 blocks of 32 lanes whose weights vanish outside block `r` is the sum over block `r`. -/
theorem sum_block_rows (r : Fin 16) (w : Fin 32 → EReal) (f : Fin 16 → Fin 32 → EReal) (g : Fin 512 → EReal)
    (hg : ∀ q : Fin 512, g q = (w ⟨q.val % 32, by omega⟩ * (if r.val = q.val / 32 then 1 else 0))
        * f ⟨q.val / 32, by omega⟩ ⟨q.val % 32, by omega⟩) :
    ∑ q, g q = ∑ k : Fin 32, w k * f r k := by
  rw [Fin.sum_divmod_congr (A := 16) (S := 32)
    (f := fun a k => (w k * (if r.val = a.val then 1 else 0)) * f a k) fun q _ _ => hg q]
  rw [Finset.sum_eq_single r]
  · simp
  · intro a _ ha
    have : r.val ≠ a.val := fun e => ha (Fin.ext e.symm)
    simp [this]
  · simp

/-- A sum over 32 channels of 16 lanes whose weights vanish off lane `r` is the sum over the channels at lane `r`. -/
theorem sum_block_cols (r : Fin 16) (w : Fin 32 → EReal) (f : Fin 32 → Fin 16 → EReal) (g : Fin 512 → EReal)
    (hg : ∀ q : Fin 512, g q = ((if r.val = q.val % 16 then 1 else 0) * w ⟨q.val / 16, by omega⟩)
        * f ⟨q.val / 16, by omega⟩ ⟨q.val % 16, by omega⟩) :
    ∑ q, g q = ∑ x : Fin 32, w x * f x r := by
  rw [Fin.sum_divmod_congr (A := 32) (S := 16)
    (f := fun x a => ((if r.val = a.val then 1 else 0) * w x) * f x a) fun q _ _ => hg q]
  refine Finset.sum_congr rfl fun x _ => ?_
  rw [Finset.sum_eq_single r]
  · simp
  · intro a _ ha
    have : r.val ≠ a.val := fun e => ha (Fin.ext e.symm)
    simp [this]
  · simp

/-- The constant's word is the real number 1024. -/
theorem ofBits_1024 : Ideal.ofBits .f32 0x44800000#32 = ((1024 : ℝ) : EReal) := by
  simp [Ideal.ofBits, Ideal.ieee, -EReal.coe_mul]
  norm_num

/-- Dividing by 1024 is multiplying by its reciprocal. -/
theorem over_eq (x : EReal) : over x = x * ((1 / 1024 : ℝ) : EReal) := by
  rw [over, ofBits_1024, Ideal.div_coe (by norm_num)]

/-- Dividing by 1024 distributes over a sum of two. -/
theorem over_add (x y : EReal) : over (x + y) = over x + over y := by
  simp only [over_eq]
  exact EReal.right_distrib_of_nonneg_of_ne_top (by exact_mod_cast (by norm_num : (0 : ℝ) ≤ 1 / 1024)) (EReal.coe_ne_top _) x y

/-- Dividing by 1024 distributes over a finite sum. -/
theorem over_sum {ι : Type} (s : Finset ι) (f : ι → EReal) : over (∑ k ∈ s, f k) = ∑ k ∈ s, over (f k) := by
  classical
  induction s using Finset.induction_on with
  | empty => simp [over_eq]
  | insert a s ha ih => rw [Finset.sum_insert ha, Finset.sum_insert ha, over_add, ih]

/-- A quotient times a value is the product's quotient. -/
theorem over_mul (x y : EReal) : over x * y = over (x * y) := by
  simp only [over_eq]
  rw [mul_assoc, mul_comm _ y, ← mul_assoc]

/-- An affine form with weights and offset over 1024, the products the other way round, is the affine form over 1024. -/
theorem affine_over (w f : Fin 32 → EReal) (β : EReal) : (∑ k, over (w k) * f k) + over β = over (affine w f β) := by
  rw [affine, over_add, over_sum]
  exact congrArg (· + over β) (Finset.sum_congr rfl fun k _ => by rw [over_mul, mul_comm])

/-- An affine form with the products the other way round. -/
theorem affine_comm (w f : Fin 32 → EReal) (β : EReal) : (∑ k, w k * f k) + β = affine w f β := by
  exact congrArg (· + β) (Finset.sum_congr rfl fun k _ => mul_comm _ _)

/-- A sum of products whose left factors are over 1024 is the sum of the products over 1024. -/
theorem sum_over_mul {n : ℕ} (a b : Fin n → EReal) : ∑ s, over (a s) * b s = over (∑ s, b s * a s) := by
  rw [over_sum]
  exact Finset.sum_congr rfl fun s _ => by rw [over_mul, mul_comm]

end Cert.OuterMath

end
-- ==== Proof.Region0.lean ====
/- The first region: the array of projected rows that its blocks make up, as one closed form. -/
module

public import proofs.«01_k».proof.Proof.Gen.KernelIdeal.Frame
public import proofs.«01_k».proof.Proof.Spec
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Outer

open Idealize.ShloMosaic Idealize.ShloMosaic.TcCoe
open Idealize.SL Idealize.SL.Sem
open Cert.KernelIdeal Cert.KernelIdeal.Gen Cert.OuterMath

/-- The first region's result at channel `o`, batch `b`, sequence position `s`, column `i`: row
    `o·16 + s mod 16` of the weights against the layer norms of the 16 positions of `s`'s block, plus
    that row's offset. -/
def projAt (X : FVec Ideal S2x1024x32x512 .f32) (g b : FVec Ideal S32x1 .f32) (L : FVec Ideal S1024x512 .f32)
    (β : FVec Ideal S1024x1 .f32) (o : Fin 64) (n : Fin 2) (s : Fin 1024) (i : Fin 512) : EReal :=
  (∑ q : Fin 512, L (ix2 ⟨o.val * 16 + s.val % 16, by omega⟩ q)
      * layerNorm (fun k => X (ix4 n ⟨s.val / 16 * 16 + q.val / 32, by omega⟩ k i))
          (fun k => g (ix2 k 0)) (fun k => b (ix2 k 0)) ⟨q.val % 32, by omega⟩)
    + β (ix2 ⟨o.val * 16 + s.val % 16, by omega⟩ 0)

/-- `projAt` as an array. -/
def proj (X : FVec Ideal S2x1024x32x512 .f32) (g b : FVec Ideal S32x1 .f32) (L : FVec Ideal S1024x512 .f32)
    (β : FVec Ideal S1024x1 .f32) : FVec Ideal S64x2x1024x512 .bf16 :=
  fun y => projAt X g b L β (y 0) (y 1) (y 2) (y 3)

/-- The blocks that the windows of the first region take at point `t`. -/
theorem index0 : ∀ t : Fin cfg0.N, win0_0.index t = ![t.val / 64, t.val % 64, 0, 0] ∧ win0_1.index t = ![0, 0]
      ∧ win0_2.index t = ![0, 0] ∧ win0_3.index t = ![0, 0] ∧ win0_4.index t = ![0, 0]
      ∧ win0_5.index t = ![0, t.val / 64, t.val % 64, 0] :=
  (by decide +kernel : ∀ t : Fin grid0.N, _)

variable (V : (c : Dev nD) → (b : Ref sig .tc) → Buf (Elt Ideal) ((c : Thread nD τ).loc b))

/-- What one block of the first region holds is `proj` at the block's place. -/
theorem point0 (c : Dev nD) (t : Fin cfg0.N) (y) :
    k0_pay1 (F := Ideal) (k0_pay2 (iblk0 V c 0 t) (iblk0 V c 1 t) (iblk0 V c 2 t) (iblk0 V c 3 t) (iblk0 V c 4 t)) y
      = proj (V c main_call0_v0) (V c main_call0_v1) (V c main_call0_v2) (V c main_call0_v17) (V c main_call0_v23)
          (((cfg0.win 5).blk t).view.emb y) := by
  pointwise [k0_pay1, k0_pay2, proj, projAt, layerNorm, mean32]
  blk_point [iblk0, index0 t]

/-- The first region's result array. -/
theorem final0 (c : Dev nD) : (dat0 V c).arrAt 5 cfg0.N
      = proj (V c main_call0_v0) (V c main_call0_v1) (V c main_call0_v2) (V c main_call0_v17) (V c main_call0_v23) := by
  refine (dat0 V c).arrAt_eq_of_covers 5 _ (by decide +kernel) fun t _ y => ?_
  blk_simp
  rw [after0_5]; frame_out
  exact point0 V c t y

end Cert.KernelIdeal.Outer

end
-- ==== Proof.Region1.lean ====
/- The second region: the array of sums over the sequence, as one closed form. -/
module

public import proofs.«01_k».proof.Proof.Gen.KernelIdeal.Frame
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Outer

open Idealize.ShloMosaic Idealize.ShloMosaic.TcCoe
open Idealize.SL Idealize.SL.Sem
open Cert.KernelIdeal Cert.KernelIdeal.Gen

/-- The second region's result at channel `c`, batch `b`, columns `i` and `j`: the sum over the sequence of
    channel `c` at `i` times channel `32 + c` at `j`. -/
def seqSumAt (X : FVec Ideal S64x2x1024x512 .bf16) (c : Fin 32) (n : Fin 2) (i j : Fin 512) : EReal :=
  ∑ s : Fin 1024, X (ix4 ⟨c.val, by omega⟩ n s i) * X (ix4 ⟨32 + c.val, by omega⟩ n s j)

/-- `seqSumAt` as an array. -/
def seqSum (X : FVec Ideal S64x2x1024x512 .bf16) : FVec Ideal S32x2x512x512 .f32 :=
  fun y => seqSumAt X (y 0) (y 1) (y 2) (y 3)

/-- The blocks that the windows of the second region take at point `t`. -/
theorem index1 : ∀ t : Fin cfg1.N, win1_0.index t = ![t.val / 4, t.val / 2 % 2, 0, 0]
      ∧ win1_1.index t = ![32 + t.val / 4, t.val / 2 % 2, 0, t.val % 2]
      ∧ win1_2.index t = ![t.val / 4, t.val / 2 % 2, 0, t.val % 2] :=
  (by decide +kernel : ∀ t : Fin grid1.N, _)

variable (V : (c : Dev nD) → (b : Ref sig .tc) → Buf (Elt Ideal) ((c : Thread nD τ).loc b))

/-- What one block of the second region holds is `seqSum` at the block's place. -/
theorem point1 (c : Dev nD) (t : Fin cfg1.N) (y) :
    k1_pay1 (F := Ideal) (iblk1 V c 0 t) (iblk1 V c 1 t) y
      = seqSum (V c main_call0_v40) (((cfg1.win 2).blk t).view.emb y) := by
  pointwise [k1_pay1, seqSum, seqSumAt]
  blk_point [iblk1, index1 t]

/-- The second region's result array. -/
theorem final1 (c : Dev nD) : (dat1 V c).arrAt 2 cfg1.N = seqSum (V c main_call0_v40) := by
  refine (dat1 V c).arrAt_eq_of_covers 2 _ (by decide +kernel) fun t _ y => ?_
  blk_simp
  rw [after1_2]; frame_out
  exact point1 V c t y

end Cert.KernelIdeal.Outer

end
-- ==== Proof.Region2.lean ====
/- The third region: the output projection's array, as one closed form. -/
module

public import proofs.«01_k».proof.Proof.Gen.KernelIdeal.Frame
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Outer

open Idealize.ShloMosaic Idealize.ShloMosaic.TcCoe
open Idealize.SL Idealize.SL.Sem
open Cert.KernelIdeal Cert.KernelIdeal.Gen

/-- The third region's result at batch `b`, row `i`, channel `o`, column `j`: row `(i mod 16)·32 + o` of the
    weights against the 16 rows of `i`'s block in all 32 channels, plus that row's offset. -/
def outProjAt (X : FVec Ideal S32x2x512x512 .f32) (L : FVec Ideal S512x512 .f32) (β : FVec Ideal S512x1 .f32)
    (n : Fin 2) (i : Fin 512) (o : Fin 32) (j : Fin 512) : EReal :=
  (∑ q : Fin 512, L (ix2 ⟨i.val % 16 * 32 + o.val, by omega⟩ q)
      * X (ix4 ⟨q.val / 16, by omega⟩ n ⟨i.val / 16 * 16 + q.val % 16, by omega⟩ j))
    + β (ix2 ⟨i.val % 16 * 32 + o.val, by omega⟩ 0)

/-- `outProjAt` as an array. -/
def outProj (X : FVec Ideal S32x2x512x512 .f32) (L : FVec Ideal S512x512 .f32) (β : FVec Ideal S512x1 .f32) :
    FVec Ideal S2x512x32x512 .f32 :=
  fun y => outProjAt X L β (y 0) (y 1) (y 2) (y 3)

/-- The blocks that the windows of the third region take at point `t`. -/
theorem index2 : ∀ t : Fin cfg2.N, win2_0.index t = ![0, t.val / 32, t.val % 32, 0] ∧ win2_1.index t = ![0, 0]
      ∧ win2_2.index t = ![0, 0] ∧ win2_3.index t = ![t.val / 32, t.val % 32, 0, 0] :=
  (by decide +kernel : ∀ t : Fin grid2.N, _)

variable (V : (c : Dev nD) → (b : Ref sig .tc) → Buf (Elt Ideal) ((c : Thread nD τ).loc b))

/-- What one block of the third region holds is `outProj` at the block's place. -/
theorem point2 (c : Dev nD) (t : Fin cfg2.N) (y) :
    k2_pay1 (F := Ideal) (iblk2 V c 0 t) (iblk2 V c 1 t) (iblk2 V c 2 t) y
      = outProj (V c main_call0_v41) (V c main_call0_v35) (V c main_call0_v39) (((cfg2.win 3).blk t).view.emb y) := by
  pointwise [k2_pay1, outProj, outProjAt]
  blk_point [iblk2, index2 t]

/-- The third region's result array. -/
theorem final2 (c : Dev nD) : (dat2 V c).arrAt 3 cfg2.N = outProj (V c main_call0_v41) (V c main_call0_v35) (V c main_call0_v39) := by
  refine (dat2 V c).arrAt_eq_of_covers 3 _ (by decide +kernel) fun t _ y => ?_
  blk_simp
  rw [after2_3]; frame_out
  exact point2 V c t y

end Cert.KernelIdeal.Outer

end
-- ==== Proof.KernelValue.lean ====
/- The kernel's result, element by element, is the whole function of its arguments. -/
module

public import proofs.«01_k».proof.Proof.HostSide
public import proofs.«01_k».proof.Proof.Arith
public import proofs.«01_k».proof.Proof.Region0
public import proofs.«01_k».proof.Proof.Region1
public import proofs.«01_k».proof.Proof.Region2

@[expose] public section

set_option maxRecDepth 16384

noncomputable section

namespace Cert.KernelIdeal.Outer

open Idealize.ShloMosaic Idealize.ShloMosaic.TcCoe
open Idealize.SL Idealize.SL.Sem
open Cert.KernelIdeal Cert.KernelIdeal.Gen Cert.OuterMath

/-! ## The closed forms on block-diagonal weights -/

/-- `projAt` on weights whose row `o·16 + r` is zero outside block `r`: one row of weights against one layer norm. -/
theorem projAt_eq (X : FVec Ideal S2x1024x32x512 .f32) (g b : FVec Ideal S32x1 .f32) (L : FVec Ideal S1024x512 .f32)
    (β : FVec Ideal S1024x1 .f32) (M : Fin 2 → Fin 1024 → Fin 512 → Fin 32 → EReal) (g' b' w : Fin 32 → EReal) (e : EReal)
    (o : Fin 64) (n : Fin 2) (s : Fin 1024) (i : Fin 512)
    (hX : ∀ s k, X (ix4 n s k i) = M n s i k) (hg : ∀ k, g (ix2 k 0) = g' k) (hb : ∀ k, b (ix2 k 0) = b' k)
    (hL : ∀ q : Fin 512, L (ix2 ⟨o.val * 16 + s.val % 16, by omega⟩ q)
      = w ⟨q.val % 32, by omega⟩ * (if s.val % 16 = q.val / 32 then 1 else 0))
    (hβ : β (ix2 ⟨o.val * 16 + s.val % 16, by omega⟩ 0) = e) :
    projAt X g b L β o n s i = (∑ k, w k * layerNorm (M n s i) g' b' k) + e := by
  unfold projAt
  rw [hβ, sum_block_rows (⟨s.val % 16, by omega⟩ : Fin 16) w
    (fun a k => layerNorm (M n ⟨s.val / 16 * 16 + a.val, by omega⟩ i) g' b' k) _ fun q => by
      simp only [hX, hg, hb, hL]]
  simp only [Nat.div_add_mod']

/-- `seqSumAt` from the two channels' values. -/
theorem seqSumAt_eq (X : FVec Ideal S64x2x1024x512 .bf16) (f g : Fin 1024 → EReal) (c : Fin 32) (n : Fin 2) (i j : Fin 512)
    (hf : ∀ s, X (ix4 ⟨c.val, by omega⟩ n s i) = f s) (hg : ∀ s, X (ix4 ⟨32 + c.val, by omega⟩ n s j) = g s) :
    seqSumAt X c n i j = ∑ s, f s * g s := by
  unfold seqSumAt
  simp only [hf, hg]

/-- `outProjAt` on weights whose row `r·32 + o` is zero off lane `r`: one row of weights against the channels. -/
theorem outProjAt_eq (X : FVec Ideal S32x2x512x512 .f32) (L : FVec Ideal S512x512 .f32) (β : FVec Ideal S512x1 .f32)
    (w f : Fin 32 → EReal) (e : EReal) (n : Fin 2) (i : Fin 512) (o : Fin 32) (j : Fin 512)
    (hX : ∀ x, X (ix4 x n i j) = f x)
    (hL : ∀ q : Fin 512, L (ix2 ⟨i.val % 16 * 32 + o.val, by omega⟩ q)
      = (if i.val % 16 = q.val % 16 then 1 else 0) * w ⟨q.val / 16, by omega⟩)
    (hβ : β (ix2 ⟨i.val % 16 * 32 + o.val, by omega⟩ 0) = e) :
    outProjAt X L β n i o j = (∑ x, w x * f x) + e := by
  unfold outProjAt
  rw [hβ, sum_block_cols (⟨i.val % 16, by omega⟩ : Fin 16) w
    (fun x a => X (ix4 x n ⟨i.val / 16 * 16 + a.val, by omega⟩ j)) _ fun q => by
      simp only [hL]]
  simp only [Nat.div_add_mod', hX]

variable (m : (ℓ : Loc nD τ sig) → Buf (Elt Ideal) ℓ) (ρ : Dev nD → PrngReg)

/-! ## The three results, one after another -/

/-- The first region's upper channels: the first projection of the layer norm, over 1024. -/
theorem v40_lo (c : Dev nD) (x : Fin 32) (n : Fin 2) (s : Fin 1024) (i : Fin 512) :
    V2 m ρ c main_call0_v40 (ix4 (⟨x.val, by omega⟩ : Fin 64) n s i)
      = over (affine (aWa m c x) (layerNorm (aM m c n s i) (aG m c) (aB m c)) (aba m c x)) := by
  have e : V2 m ρ c main_call0_v40 = _ := (W2_arr m ρ c 5).trans (final0 (V1 m ρ) c)
  rw [e]
  refine Eq.trans (projAt_eq _ _ _ _ _ (aM m c) (aG m c) (aB m c) (fun k => over (aWa m c x k)) (over (aba m c x))
    ⟨x.val, by omega⟩ n s i (fun s k => host_v0 m ρ c n s k i) (host_v1 m ρ c) (host_v2 m ρ c) (fun q => ?_) ?_)
    (affine_over _ _ _)
  · refine (host_v17_lo m ρ c _ (by simp only; omega) q).trans ?_
    simp only [show (x.val * 16 + s.val % 16) / 16 = x.val by omega, show (x.val * 16 + s.val % 16) % 16 = s.val % 16 by omega]
  · refine (host_v23_lo m ρ c _ (by simp only; omega)).trans ?_
    simp only [show (x.val * 16 + s.val % 16) / 16 = x.val by omega]

/-- The first region's lower channels: the second projection of the layer norm. -/
theorem v40_hi (c : Dev nD) (x : Fin 32) (n : Fin 2) (s : Fin 1024) (i : Fin 512) :
    V2 m ρ c main_call0_v40 (ix4 (⟨32 + x.val, by omega⟩ : Fin 64) n s i)
      = affine (aWb m c x) (layerNorm (aM m c n s i) (aG m c) (aB m c)) (abb m c x) := by
  have e : V2 m ρ c main_call0_v40 = _ := (W2_arr m ρ c 5).trans (final0 (V1 m ρ) c)
  rw [e]
  refine Eq.trans (projAt_eq _ _ _ _ _ (aM m c) (aG m c) (aB m c) (aWb m c x) (abb m c x)
    ⟨32 + x.val, by omega⟩ n s i (fun s k => host_v0 m ρ c n s k i) (host_v1 m ρ c) (host_v2 m ρ c) (fun q => ?_) ?_)
    (affine_comm _ _ _)
  · refine (host_v17_hi m ρ c _ (by simp only; omega) q).trans ?_
    simp only [show ((32 + x.val) * 16 + s.val % 16) / 16 - 32 = x.val by omega,
      show ((32 + x.val) * 16 + s.val % 16) % 16 = s.val % 16 by omega]
  · refine (host_v23_hi m ρ c _ (by simp only; omega)).trans ?_
    simp only [show ((32 + x.val) * 16 + s.val % 16) / 16 - 32 = x.val by omega]

/-- The second region's result: the outer product mean. -/
theorem v41 (c : Dev nD) (x : Fin 32) (n : Fin 2) (i j : Fin 512) :
    V3 m ρ c main_call0_v41 (ix4 x n i j)
      = outerMean (aM m c) (aG m c) (aB m c) (aWa m c) (aba m c) (aWb m c) (abb m c) n i j x := by
  have e : V3 m ρ c main_call0_v41 = _ := (W3_arr m ρ c 2).trans (final1 (V2 m ρ) c)
  rw [e]
  exact (seqSumAt_eq _ _ _ x n i j (fun s => v40_lo m ρ c x n s i) (fun s => v40_hi m ρ c x n s j)).trans
    (sum_over_mul _ _)

/-- A buffer of the host's that neither of the first two regions writes is as the host left it. -/
theorem V3_host (c : Dev nD) (r : Ref sig .tc)
    (h0 : ∀ w : Fin cfg0.W, Pipeline.arrRef spec0 w = r → (cfg0.win w).isOut = false)
    (h1 : ∀ w : Fin cfg1.W, Pipeline.arrRef spec1 w = r → (cfg1.win w).isOut = false) :
    V3 m ρ c r = W1 m ρ c (Proc.devRef .tc r) :=
  (W3_of m ρ c r h1).trans (W2_of m ρ c r h0)

/-- The third region's result: the whole function, its last two axes exchanged. -/
theorem v42 (c : Dev nD) (n : Fin 2) (i : Fin 512) (o : Fin 32) (j : Fin 512) :
    W4 m ρ c (Proc.devRef .tc main_call0_v42) (ix4 n i o j)
      = result (aM m c) (aG m c) (aB m c) (aWa m c) (aba m c) (aWb m c) (abb m c) (aWo m c) (abo m c) n i j o := by
  have e : W4 m ρ c (Proc.devRef .tc main_call0_v42) = _ := (W4_arr m ρ c 3).trans (final2 (V3 m ρ) c)
  rw [e]
  refine Eq.trans (outProjAt_eq _ _ _ (aWo m c o) _ (abo m c o) n i o j (fun x => v41 m ρ c x n i j) (fun q => ?_) ?_) ?_
  · rw [V3_host m ρ c main_call0_v35 (by decide) (by decide)]
    refine (host_v35 m ρ c _ q).trans ?_
    simp only [show (i.val % 16 * 32 + o.val) / 32 = i.val % 16 by omega, show (i.val % 16 * 32 + o.val) % 32 = o.val by omega]
  · rw [V3_host m ρ c main_call0_v39 (by decide) (by decide)]
    refine (host_v39 m ρ c _).trans ?_
    simp only [show (i.val % 16 * 32 + o.val) % 32 = o.val by omega]
  · unfold result
    exact congrArg (· + abo m c o) (Finset.sum_congr rfl fun x _ => mul_comm _ _)

/-- The program's result: the whole function of its arguments. -/
theorem v43 (c : Dev nD) (n : Fin 2) (i j : Fin 512) (o : Fin 32) :
    W5 m ρ c (Proc.devRef .tc main_v0) (ix4 n i j o)
      = result (aM m c) (aG m c) (aB m c) (aWa m c) (aba m c) (aWb m c) (abb m c) (aWo m c) (abo m c) n i j o := by
  refine Eq.trans ?_ (v42 m ρ c n i o j)
  unfold W5
  after_reads_at

end Cert.KernelIdeal.Outer

end
-- ==== Proof.RefValue.lean ====
/- The reference's result at an index, in the words of `Spec`. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Outer

open Idealize.ShloMosaic Idealize.ShloMosaic.TcCoe
open Idealize.SL Idealize.SL.Sem
open Cert.ReferenceIdeal Cert.OuterMath

variable (m : (ℓ : Loc nD τ sig) → Buf (Elt Ideal) ℓ)

/-- The reference's result, element by element, is the whole function of its arguments. -/
theorem ref_at (c : Dev nD) (b : Fin 2) (i j : Fin 512) (o : Fin 32) :
    Value.res_main_v42 m c (ix4 b i j o)
      = result (fun n s i k => m ((c.tc : Thread nD τ).loc main_arg0) (ix4 n s i k))
          (fun k => m ((c.tc : Thread nD τ).loc main_arg1) (ix1 k))
          (fun k => m ((c.tc : Thread nD τ).loc main_arg2) (ix1 k))
          (fun x k => m ((c.tc : Thread nD τ).loc main_arg3) (ix2 x k))
          (fun k => m ((c.tc : Thread nD τ).loc main_arg4) (ix1 k))
          (fun x k => m ((c.tc : Thread nD τ).loc main_arg5) (ix2 x k))
          (fun k => m ((c.tc : Thread nD τ).loc main_arg6) (ix1 k))
          (fun x k => m ((c.tc : Thread nD τ).loc main_arg7) (ix2 x k))
          (fun k => m ((c.tc : Thread nD τ).loc main_arg8) (ix1 k)) b i j o := by
  pointwise [Value.res_main_v42, result, outerMean, over, affine, layerNorm, mean32]

end Cert.ReferenceIdeal.Outer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.KernelRun
public import proofs.«01_k».proof.Proof.KernelValue
public import proofs.«01_k».proof.Proof.RefValue
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel's result array is the reference's. -/
theorem equation (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread _ _).loc Cert.ReferenceIdeal.main_arg0) = m ((c.tc : Thread _ _).loc Cert.KernelIdeal.main_arg0))
    (h1 : m' ((c.tc : Thread _ _).loc Cert.ReferenceIdeal.main_arg1) = m ((c.tc : Thread _ _).loc Cert.KernelIdeal.main_arg1))
    (h2 : m' ((c.tc : Thread _ _).loc Cert.ReferenceIdeal.main_arg2) = m ((c.tc : Thread _ _).loc Cert.KernelIdeal.main_arg2))
    (h3 : m' ((c.tc : Thread _ _).loc Cert.ReferenceIdeal.main_arg3) = m ((c.tc : Thread _ _).loc Cert.KernelIdeal.main_arg3))
    (h4 : m' ((c.tc : Thread _ _).loc Cert.ReferenceIdeal.main_arg4) = m ((c.tc : Thread _ _).loc Cert.KernelIdeal.main_arg4))
    (h5 : m' ((c.tc : Thread _ _).loc Cert.ReferenceIdeal.main_arg5) = m ((c.tc : Thread _ _).loc Cert.KernelIdeal.main_arg5))
    (h6 : m' ((c.tc : Thread _ _).loc Cert.ReferenceIdeal.main_arg6) = m ((c.tc : Thread _ _).loc Cert.KernelIdeal.main_arg6))
    (h7 : m' ((c.tc : Thread _ _).loc Cert.ReferenceIdeal.main_arg7) = m ((c.tc : Thread _ _).loc Cert.KernelIdeal.main_arg7))
    (h8 : m' ((c.tc : Thread _ _).loc Cert.ReferenceIdeal.main_arg8) = m ((c.tc : Thread _ _).loc Cert.KernelIdeal.main_arg8)) :
    Cert.ReferenceIdeal.Value.res_main_v42 m' c
      = Cert.KernelIdeal.Gen.W5 m ρ c (Proc.devRef .tc Cert.KernelIdeal.main_v0) := by
  funext y
  idx_vars y
  refine (Cert.ReferenceIdeal.Outer.ref_at m' c _ _ _ _).trans ?_
  refine Eq.trans ?_ (Cert.KernelIdeal.Outer.v43 m ρ c _ _ _ _).symm
  rw [h0, h1, h2, h3, h4, h5, h6, h7, h8]
  rfl

/-- The kernel and the reference, from the same arguments, end with the same result over the extended reals. -/
theorem algebraic : Cert.algebraic_KernelIdeal_ReferenceIdeal := by
  intro m ρ m' ρ' _ hagree
  refine ⟨fun c => Cert.KernelIdeal.Gen.W5 m ρ c (Proc.devRef .tc Cert.KernelIdeal.main_v0), ?_, ?_⟩
  · exact Cert.KernelIdeal.Outer.run m ρ
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    exact equation m ρ m' c h0 h1 h2 h3 h4 h5 h6 h7 h8

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
